-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x26 : Shape := ⟨2, ![4096, 26]⟩
abbrev S26x26 : Shape := ⟨2, ![26, 26]⟩
abbrev S_ : Shape := ⟨0, ![]⟩
abbrev S26x26x1000 : Shape := ⟨3, ![26, 26, 1000]⟩
abbrev S26x26000 : Shape := ⟨2, ![26, 26000]⟩
abbrev S4096x26000 : Shape := ⟨2, ![4096, 26000]⟩
abbrev S4x64x26000 : Shape := ⟨3, ![4, 64, 26000]⟩
abbrev S4 : Shape := ⟨1, ![4]⟩
abbrev S1 : Shape := ⟨1, ![1]⟩
abbrev S64x26000 : Shape := ⟨2, ![64, 26000]⟩
abbrev S1x64x26000 : Shape := ⟨3, ![1, 64, 26000]⟩
abbrev S64x26 : Shape := ⟨2, ![64, 26]⟩
abbrev S64x26x1000 : Shape := ⟨3, ![64, 26, 1000]⟩
abbrev S64x26x1 : Shape := ⟨3, ![64, 26, 1]⟩
abbrev S4096x26x1000 : Shape := ⟨3, ![4096, 26, 1000]⟩

abbrev nBuf : Space → Nat
  | .hbm => 12
  | .vmem => 3
  | .smem => 0
  | _ => 0

abbrev bufTy : (tb : Table) → Fin (tcTables nBuf tb) → BufTy
  | .hbm, ⟨0, _⟩ => ⟨S4096x26, .i32⟩
  | .hbm, ⟨1, _⟩ => ⟨S26x26, .i32⟩
  | .hbm, ⟨2, _⟩ => ⟨S26x26, .i32⟩
  | .hbm, ⟨3, _⟩ => ⟨S_, .i32⟩
  | .hbm, ⟨4, _⟩ => ⟨S26x26, .i32⟩
  | .hbm, ⟨5, _⟩ => ⟨S26x26, .i32⟩
  | .hbm, ⟨6, _⟩ => ⟨S26x26, .i1⟩
  | .hbm, ⟨7, _⟩ => ⟨S26x26, .f32⟩
  | .hbm, ⟨8, _⟩ => ⟨S26x26x1000, .f32⟩
  | .hbm, ⟨9, _⟩ => ⟨S26x26000, .f32⟩
  | .hbm, ⟨10, _⟩ => ⟨S4096x26000, .f32⟩
  | .hbm, ⟨11, _⟩ => ⟨S4096x26x1000, .f32⟩
  | .local _ .vmem, ⟨0, _⟩ => ⟨S26x26000, .f32⟩
  | .local _ .vmem, ⟨1, _⟩ => ⟨S4096x26, .i32⟩
  | .local _ .vmem, ⟨2, _⟩ => ⟨S4x64x26000, .f32⟩
  | _, _ => ⟨S4096x26, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c4_i32_1 : BitVec 32 := 4#32
  let v4 : BitVec 1 := Scalar.cmpi .sge arg0 c4_i32_1
  let v5 : BitVec 32 := Scalar.extui v4
  let c0_i32_2 : BitVec 32 := 0#32
  let v6 : BitVec 1 := Scalar.cmpi .ne v5 c0_i32_2
  v6

def k0_off1 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off2 (i : grid0.Coords) : Fin 2 → Nat :=
  let arg0 : BitVec 32 := BitVec.ofNat 32 (i 0).val
  let c4_i32_10 : BitVec 32 := 4#32
  let v30 : BitVec 32 := Scalar.subi arg0 c4_i32_10
  let c64_i32_11 : BitVec 32 := 64#32
  let v31 : BitVec 32 := Scalar.muli v30 c64_i32_11
  let c0_i32_12 : BitVec 32 := 0#32
  ![v31.toNat, 0]
def k0_off3 (i : grid0.Coords) : Fin 3 → Nat :=
  let arg0 : BitVec 32 := BitVec.ofNat 32 (i 0).val
  let c4_i32 : BitVec 32 := 4#32
  let v0 : BitVec 32 := Scalar.remsi arg0 c4_i32
  let c0_i32_13 : BitVec 32 := 0#32
  let c0_i32_14 : BitVec 32 := 0#32
  ![v0.toNat, 0, 0]
def k0_off4 (i : grid0.Coords) : Fin 2 → Nat :=
  let arg0 : BitVec 32 := BitVec.ofNat 32 (i 0).val
  let c64_i32 : BitVec 32 := 64#32
  let v7 : BitVec 32 := Scalar.muli arg0 c64_i32
  let v8 : Index := Scalar.indexCast v7
  let c0 : Index := 0#32
  ![v8.toNat, 0]
def k0_off5 (i : grid0.Coords) : Fin 3 → Nat :=
  let arg0 : BitVec 32 := BitVec.ofNat 32 (i 0).val
  let c4_i32 : BitVec 32 := 4#32
  let v0 : BitVec 32 := Scalar.remsi arg0 c4_i32
  let v17 : Index := Scalar.indexCast v0
  let c0_3 : Index := 0#32
  let c0_4 : Index := 0#32
  ![v17.toNat, 0, 0]
def k0_off6 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off7 (i : grid0.Coords) : Fin 2 → Nat :=
  let arg0 : BitVec 32 := BitVec.ofNat 32 (i 0).val
  let c64_i32_5 : BitVec 32 := 64#32
  let v21 : BitVec 32 := Scalar.muli arg0 c64_i32_5
  let c0_i32_6 : BitVec 32 := 0#32
  ![v21.toNat, 0]
def k0_off8 (i : grid0.Coords) : Fin 3 → Nat :=
  let arg0 : BitVec 32 := BitVec.ofNat 32 (i 0).val
  let c4_i32 : BitVec 32 := 4#32
  let v0 : BitVec 32 := Scalar.remsi arg0 c4_i32
  let c0_i32_7 : BitVec 32 := 0#32
  let c0_i32_8 : BitVec 32 := 0#32
  ![v0.toNat, 0, 0]
def k0_cond3 (i : grid0.Coords) : BitVec 1 :=
  let arg0 : BitVec 32 := BitVec.ofNat 32 (i 0).val
  let c63_i32 : BitVec 32 := 63#32
  let v27 : BitVec 1 := Scalar.cmpi .eq arg0 c63_i32
  let v28 : BitVec 32 := Scalar.extui v27
  let c0_i32_9 : BitVec 32 := 0#32
  let v29 : BitVec 1 := Scalar.cmpi .ne v28 c0_i32_9
  v29

def k0_off9 (i : grid0.Coords) (c0_i32_10 : BitVec 32) : Fin 1 → Nat :=
  let arg0 : BitVec 32 := BitVec.ofNat 32 (i 0).val
  let c3_i32 : BitVec 32 := 3#32
  let v30 : BitVec 32 := Scalar.subi arg0 c3_i32
  let v31 : BitVec 32 := Scalar.addi v30 c0_i32_10
  let c4_i32_13 : BitVec 32 := 4#32
  let v34 : BitVec 32 := Scalar.remsi v31 c4_i32_13
  ![v34.toNat]
def k0_off10 (i : grid0.Coords) (c0_i32_10 : BitVec 32) : Fin 2 → Nat :=
  let arg0 : BitVec 32 := BitVec.ofNat 32 (i 0).val
  let c3_i32 : BitVec 32 := 3#32
  let v30 : BitVec 32 := Scalar.subi arg0 c3_i32
  let v31 : BitVec 32 := Scalar.addi v30 c0_i32_10
  let c64_i32_12 : BitVec 32 := 64#32
  let v33 : BitVec 32 := Scalar.muli v31 c64_i32_12
  let c0_i32_14 : BitVec 32 := 0#32
  ![v33.toNat, 0]
def k0_off11 (i : grid0.Coords) (c0_i32_10 : BitVec 32) : Fin 3 → Nat :=
  let arg0 : BitVec 32 := BitVec.ofNat 32 (i 0).val
  let c3_i32 : BitVec 32 := 3#32
  let v30 : BitVec 32 := Scalar.subi arg0 c3_i32
  let v31 : BitVec 32 := Scalar.addi v30 c0_i32_10
  let c4_i32_11 : BitVec 32 := 4#32
  let v32 : BitVec 32 := Scalar.remsi v31 c4_i32_11
  let c0_i32_15 : BitVec 32 := 0#32
  let c0_i32_16 : BitVec 32 := 0#32
  ![v32.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S26x26000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== ReferenceIdeal.lean ====
abbrev S4096x26 : Shape := ⟨2, ![4096, 26]⟩
abbrev S4096x26x1 : Shape := ⟨3, ![4096, 26, 1]⟩
abbrev S1x1x1000 : Shape := ⟨3, ![1, 1, 1000]⟩
abbrev S4096x26x1000 : Shape := ⟨3, ![4096, 26, 1000]⟩

abbrev nBuf : Space → Nat
  | .hbm => 7
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S4096x26x1, .i32⟩
  | .hbm, ⟨2, _⟩ => ⟨S1x1x1000, .i32⟩
  | .hbm, ⟨3, _⟩ => ⟨S4096x26x1000, .i32⟩
  | .hbm, ⟨4, _⟩ => ⟨S4096x26x1000, .i32⟩
  | .hbm, ⟨5, _⟩ => ⟨S4096x26x1000, .i1⟩
  | .hbm, ⟨6, _⟩ => ⟨S4096x26x1000, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]
-- ==== Proof.Setup.lean ====
/-
  The kernel's launch set-up and the names of its ring: the host lines around the call, the buffers the body reads and
  writes by its own copies, its semaphores, and the slots, row blocks and cells its copies run between.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.FrameSuffixV
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Kernel.OneHot

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The host lines around the call -/

set_option maxHeartbeats 800000 in
/-- `@main` is the host lines before the call, the call, and the host line after it. -/
theorem main_around (𝒱₀ : Variants) :
    Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-! ## The buffers and semaphores of the body's own copies -/

/-- The index array in HBM, its copy in VMEM, the ring in VMEM and the result in HBM, each whole. -/
abbrev xM : Memref sig .tc .hbm S4096x26 .i32 := Memref.whole main_arg0
abbrev idxM : Memref sig .tc .vmem S4096x26 .i32 := Memref.whole cc0_scratch0
abbrev ringM : Memref sig .tc .vmem S4x64x26000 .f32 := Memref.whole cc0_scratch1
abbrev outM : Memref sig .tc .hbm S4096x26000 .f32 := Memref.whole main_v8

/-- The contents of a memref's buffer on core `c`, and that buffer held whole at contents `f`. -/
abbrev BufOf (c : Dev nD) {sp : Space} {S : Shape} {e : EltTy} (M : Memref sig .tc sp S e) : Type :=
  Buf (Elt F) (M.view.loc (c : Thread nD τ))
abbrev heldAt (c : Dev nD) {sp : Space} {S : Shape} {e : EltTy} (M : Memref sig .tc sp S e) (f : BufOf (F := F) c M) : sProp 𝕄 :=
  M.view.loc (c : Thread nD τ) ↦{fullShare} f

/-- What the body reads by its own copy: the index array. -/
def readRefs : Finset (Ref sig .tc) := {main_arg0}
/-- What the body writes by its own copies: the result. -/
def writtenRefs : Finset (Ref sig .tc) := {main_v8}
theorem readRefs_sub : readRefs ⊆ Pipeline.restRefs sig spec0 := by decide
theorem writtenRefs_sub : writtenRefs ⊆ Pipeline.restRefs sig spec0 \ readRefs := by decide

/-- The body's own semaphores: the index copy's, and the ring's four. -/
abbrev ownSem : Fin 5 → SemLoc sig := fun j =>
  (![SemLoc.dma 1, SemLoc.dma 2, SemLoc.dma 3, SemLoc.dma 4, SemLoc.dma 5] : Fin 5 → SemLoc sig) j
theorem ownSem_facts : Pipeline.OwnSemFacts spec0 ownSem := by decide

/-- The index copy's semaphore at zero. -/
abbrev idxCell (c : Dev nD) : sProp 𝕄 := semVal ((c : Thread nD τ), SemLoc.dma 1) 0

/-- The five semaphores at zero, listed. -/
theorem ownSems_eq (c : Dev nD) :
    (Pipeline.ownSems0 (Ix := Unit) (Name := ℕ) (U := Pipeline.UD sig nD τ) (Lvl := ℕ) (Val := Elt F) (τ := τ) ownSem c : sProp 𝕄)
      = iprop(idxCell c ∗ semVal ((c : Thread nD τ), SemLoc.dma 2) 0 ∗ semVal ((c : Thread nD τ), SemLoc.dma 3) 0
          ∗ semVal ((c : Thread nD τ), SemLoc.dma 4) 0 ∗ semVal ((c : Thread nD τ), SemLoc.dma 5) 0) := by
  rw [Pipeline.ownSems0_eq_of_list c ownSem [0, 1, 2, 3, 4] (by decide) (by decide)]; rfl

/-- What the region is entered with and left with, conjunct by conjunct: the two scratches at anything, the semaphores at
    zero, the index array at its contents, the result at the contents `G` names. -/
theorem region_eq (c : Dev nD) (G : (c : Dev nD) → (b : Ref sig .tc) → Buf (Elt F) ((c : Thread nD τ).loc b)) :
    (Pipeline.ΦDRV ownSem spec0 readRefs writtenRefs (V m) G c : sProp 𝕄)
      = iprop(((∃ f, heldAt c idxM f) ∗ (∃ f, heldAt c ringM f))
          ∗ (idxCell c ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0)
          ∗ heldAt c xM (V m c main_arg0) ∗ heldAt c outM (G c main_v8)) := by
  unfold Pipeline.ΦDRV
  rw [scopedRest0_eq, ownSems_eq, BI.bigSep_eq_bigSepL_of_eq (S := readRefs) [main_arg0] (by decide) (by decide),
    BI.bigSep_eq_bigSepL_of_eq (S := writtenRefs) [main_v8] (by decide) (by decide)]
  rfl

/-! ## The body's conditions, over the points -/

instance : NeZero grid0.N := ⟨by rw [N_0]; decide⟩

/-- The condition of the body's first branch, which fetches the indices. -/
abbrev fetches (i : grid0.Coords) : Prop :=
  Scalar.cmpi .ne (Scalar.extui (Scalar.cmpi .eq (BitVec.ofNat 32 (i 0).val) 0#32) : BitVec 32) 0#32 = 1#1
/-- It holds at the first point only. -/
theorem fetches_iff : ∀ t : Fin cfg0.N, fetches (grid0.coords t) ↔ t.val = 0 :=
  (by decide +kernel : ∀ t : Fin grid0.N, fetches (grid0.coords t) ↔ t.val = 0)
/-- The condition of the second branch, which waits for the slot's last copy: from point 4 on. -/
theorem waits_iff : ∀ t : Fin cfg0.N, k0_cond2 (grid0.coords t) = 1#1 ↔ 4 ≤ t.val :=
  (by decide +kernel : ∀ t : Fin grid0.N, k0_cond2 (grid0.coords t) = 1#1 ↔ 4 ≤ t.val)
/-- The condition of the third branch, which waits for the copies still in flight: at the last point only. -/
theorem drains_iff : ∀ t : Fin cfg0.N, k0_cond3 (grid0.coords t) = 1#1 ↔ t.val = 63 :=
  (by decide +kernel : ∀ t : Fin grid0.N, k0_cond3 (grid0.coords t) = 1#1 ↔ t.val = 63)

/-! ## The ring's slots, row blocks and cells -/

theorem inb_slot (g : Fin 4) : ∀ a, (![g.val, 0, 0] : Fin 3 → Nat) a + S1x64x26000.size a ≤ S4x64x26000.size a := by
  have := g.isLt; intro a; fin_cases a <;> simp <;> omega
theorem inb_rows (u : Fin 64) : ∀ a, (![64 * u.val, 0] : Fin 2 → Nat) a + S64x26000.size a ≤ S4096x26000.size a := by
  have := u.isLt; intro a; fin_cases a <;> simp <;> omega
theorem inb_cell (g : Fin 4) : ∀ a, (![g.val] : Fin 1 → Nat) a + S1.size a ≤ S4.size a := by
  have := g.isLt; intro a; fin_cases a <;> simp <;> omega

/-- Slot `g` of the ring as a box of it, and as the 64 × 26000 matrix its copy out reads. -/
abbrev slotBox (g : Fin 4) : Rect S4x64x26000 := Rect.unit (s := S4x64x26000) ![g.val, 0, 0] S1x64x26000.size (inb_slot g)
def slotM (g : Fin 4) : Memref sig .tc .vmem S64x26000 .f32 :=
  (ringM.slice (slotBox g) (fun _ => rfl)).squeeze S64x26000 squeezes_S1x64x26000_S64x26000
/-- Row block `u` of the result: rows `64 u … 64 u + 63`. -/
abbrev rowsBox (u : Fin 64) : Rect S4096x26000 := Rect.unit (s := S4096x26000) ![64 * u.val, 0] S64x26000.size (inb_rows u)
def rowsM (u : Fin 64) : Memref sig .tc .hbm S64x26000 .f32 := outM.slice (rowsBox u) (fun _ => rfl)
/-- The cell slot `g`'s copy is counted on, and its number. -/
def cellA (g : Fin 4) : DmaSems sig S_ :=
  (cc0_scratch3.slice (Rect.unit (s := S4) ![g.val] S1.size (inb_cell g))).squeeze S_ squeezes_S1_S_
abbrev cellR (g : Fin 4) : SemLoc sig := SemLoc.dma (cellA g).sem
theorem cellR_0 : cellR 0 = SemLoc.dma 2 := by decide
theorem cellR_1 : cellR 1 = SemLoc.dma 3 := by decide
theorem cellR_2 : cellR 2 = SemLoc.dma 4 := by decide
theorem cellR_3 : cellR 3 = SemLoc.dma 5 := by decide

/-! ## The body's operands at a point are the ring's -/

/-- A cell, a slot or a row block named at other offsets, equal to these, is the same one. -/
theorem cell_congr (g : Fin 4) {off : Fin 1 → Nat} (h : off = ![g.val]) (inb : ∀ a, off a + S1.size a ≤ S4.size a) :
    (cc0_scratch3.slice (Rect.unit (s := S4) off S1.size inb)).squeeze S_ squeezes_S1_S_ = cellA g :=
  congrArg (fun A : DmaSems sig S1 => A.squeeze S_ squeezes_S1_S_) (SemArray.slice_unit_congr _ h _ _)
theorem slot_congr (g : Fin 4) {off : Fin 3 → Nat} (h : off = ![g.val, 0, 0])
    (inb : ∀ a, off a + S1x64x26000.size a ≤ S4x64x26000.size a) :
    (ringM.slice (Rect.unit (s := S4x64x26000) off S1x64x26000.size inb) (fun _ => rfl)).squeeze S64x26000
      squeezes_S1x64x26000_S64x26000 = slotM g :=
  congrArg (fun M : Memref sig .tc .vmem S1x64x26000 .f32 => M.squeeze S64x26000 squeezes_S1x64x26000_S64x26000)
    (Memref.slice_unit_congr _ h _ _ (fun _ => rfl) (fun _ => rfl))
theorem rows_congr (u : Fin 64) {off : Fin 2 → Nat} (h : off = ![64 * u.val, 0])
    (inb : ∀ a, off a + S64x26000.size a ≤ S4096x26000.size a) :
    outM.slice (Rect.unit (s := S4096x26000) off S64x26000.size inb) (fun _ => rfl) = rowsM u :=
  Memref.slice_unit_congr _ h _ _ (fun _ => rfl) (fun _ => rfl)

section Canon
variable (t : Fin grid0.N)

theorem off1_eq : ∀ t : Fin grid0.N, k0_off1 (grid0.coords t) = ![(Ring.sl 4 t.val).val] := by decide +kernel
theorem off3_eq : ∀ t : Fin grid0.N, k0_off3 (grid0.coords t) = ![(Ring.sl 4 t.val).val, 0, 0] := by decide +kernel
theorem off4_eq : ∀ t : Fin grid0.N, k0_off4 (grid0.coords t) = ![64 * (Ring.bk 64 t.val).val, 0] := by decide +kernel
theorem off5_eq : ∀ t : Fin grid0.N, k0_off5 (grid0.coords t) = ![(Ring.sl 4 t.val).val, 0, 0] := by decide +kernel
theorem off6_eq : ∀ t : Fin grid0.N, k0_off6 (grid0.coords t) = ![(Ring.sl 4 t.val).val] := by decide +kernel
theorem off7_eq : ∀ t : Fin grid0.N, k0_off7 (grid0.coords t) = ![64 * (Ring.bk 64 t.val).val, 0] := by decide +kernel
theorem off8_eq : ∀ t : Fin grid0.N, k0_off8 (grid0.coords t) = ![(Ring.sl 4 t.val).val, 0, 0] := by decide +kernel
/-- The `r`-th copy the last point waits for is that of point `t - 3 + r`, on the slot of point `t + 1 + r`. -/
theorem off9_eq : ∀ t : Fin grid0.N, k0_cond3 (grid0.coords t) = 1#1 → ∀ r : Fin 4,
    k0_off9 (grid0.coords t) (BitVec.ofNat 32 r.val) = ![(Ring.sl 4 (t.val + 1 + r.val)).val] := by decide +kernel
theorem off11_eq : ∀ t : Fin grid0.N, k0_cond3 (grid0.coords t) = 1#1 → ∀ r : Fin 4,
    k0_off11 (grid0.coords t) (BitVec.ofNat 32 r.val) = ![(Ring.sl 4 (t.val + 1 + r.val)).val, 0, 0] := by decide +kernel

@[sl_canon] theorem canon_issue_cell :
    (cc0_scratch3.slice (Rect.unit (s := S4) (k0_off6 (grid0.coords t)) S1.size (k0_off6_inb (grid0.coords t)))).squeeze S_
      squeezes_S1_S_ = cellA (Ring.sl 4 t.val) := cell_congr _ (off6_eq t) _
@[sl_canon] theorem canon_issue_slot :
    (ringM.slice (Rect.unit (s := S4x64x26000) (k0_off8 (grid0.coords t)) S1x64x26000.size (k0_off8_inb (grid0.coords t)))
      (fun _ => rfl)).squeeze S64x26000 squeezes_S1x64x26000_S64x26000 = slotM (Ring.sl 4 t.val) := slot_congr _ (off8_eq t) _
@[sl_canon] theorem canon_issue_rows :
    outM.slice (Rect.unit (s := S4096x26000) (k0_off7 (grid0.coords t)) S64x26000.size (k0_off7_inb (grid0.coords t)))
      (fun _ => rfl) = rowsM (Ring.bk 64 t.val) := rows_congr _ (off7_eq t) _
@[sl_canon] theorem canon_wait_cell (h : k0_cond2 (grid0.coords t) = 1#1) :
    (cc0_scratch3.slice (Rect.unit (s := S4) (k0_off1 (grid0.coords t)) S1.size (k0_off1_inb (grid0.coords t) h))).squeeze S_
      squeezes_S1_S_ = cellA (Ring.sl 4 t.val) := cell_congr _ (off1_eq t) _
@[sl_canon] theorem canon_wait_slot (h : k0_cond2 (grid0.coords t) = 1#1) :
    (ringM.slice (Rect.unit (s := S4x64x26000) (k0_off3 (grid0.coords t)) S1x64x26000.size (k0_off3_inb (grid0.coords t) h))
      (fun _ => rfl)).squeeze S64x26000 squeezes_S1x64x26000_S64x26000 = slotM (Ring.sl 4 t.val) := slot_congr _ (off3_eq t) _

variable (h : k0_cond3 (grid0.coords t) = 1#1)
@[sl_canon] theorem canon_drain_cell_0 :
    (cc0_scratch3.slice (Rect.unit (s := S4) (k0_off9 (grid0.coords t) 0#32) S1.size (k0_off9_inb (grid0.coords t) h 0))).squeeze S_
      squeezes_S1_S_ = cellA (Ring.sl 4 (t.val + 1)) := cell_congr _ (off9_eq t h 0) _
@[sl_canon] theorem canon_drain_cell_1 :
    (cc0_scratch3.slice (Rect.unit (s := S4) (k0_off9 (grid0.coords t) 1#32) S1.size (k0_off9_inb (grid0.coords t) h 1))).squeeze S_
      squeezes_S1_S_ = cellA (Ring.sl 4 (t.val + 2)) := cell_congr _ (off9_eq t h 1) _
@[sl_canon] theorem canon_drain_cell_2 :
    (cc0_scratch3.slice (Rect.unit (s := S4) (k0_off9 (grid0.coords t) 2#32) S1.size (k0_off9_inb (grid0.coords t) h 2))).squeeze S_
      squeezes_S1_S_ = cellA (Ring.sl 4 (t.val + 3)) := cell_congr _ (off9_eq t h 2) _
@[sl_canon] theorem canon_drain_cell_3 :
    (cc0_scratch3.slice (Rect.unit (s := S4) (k0_off9 (grid0.coords t) 3#32) S1.size (k0_off9_inb (grid0.coords t) h 3))).squeeze S_
      squeezes_S1_S_ = cellA (Ring.sl 4 t.val) :=
  (cell_congr (Ring.sl 4 (t.val + 4)) (off9_eq t h 3) _).trans (by rw [Ring.sl_add])
@[sl_canon] theorem canon_drain_slot_0 :
    (ringM.slice (Rect.unit (s := S4x64x26000) (k0_off11 (grid0.coords t) 0#32) S1x64x26000.size (k0_off11_inb (grid0.coords t) h 0))
      (fun _ => rfl)).squeeze S64x26000 squeezes_S1x64x26000_S64x26000 = slotM (Ring.sl 4 (t.val + 1)) := slot_congr _ (off11_eq t h 0) _
@[sl_canon] theorem canon_drain_slot_1 :
    (ringM.slice (Rect.unit (s := S4x64x26000) (k0_off11 (grid0.coords t) 1#32) S1x64x26000.size (k0_off11_inb (grid0.coords t) h 1))
      (fun _ => rfl)).squeeze S64x26000 squeezes_S1x64x26000_S64x26000 = slotM (Ring.sl 4 (t.val + 2)) := slot_congr _ (off11_eq t h 1) _
@[sl_canon] theorem canon_drain_slot_2 :
    (ringM.slice (Rect.unit (s := S4x64x26000) (k0_off11 (grid0.coords t) 2#32) S1x64x26000.size (k0_off11_inb (grid0.coords t) h 2))
      (fun _ => rfl)).squeeze S64x26000 squeezes_S1x64x26000_S64x26000 = slotM (Ring.sl 4 (t.val + 3)) := slot_congr _ (off11_eq t h 2) _
@[sl_canon] theorem canon_drain_slot_3 :
    (ringM.slice (Rect.unit (s := S4x64x26000) (k0_off11 (grid0.coords t) 3#32) S1x64x26000.size (k0_off11_inb (grid0.coords t) h 3))
      (fun _ => rfl)).squeeze S64x26000 squeezes_S1x64x26000_S64x26000 = slotM (Ring.sl 4 t.val) :=
  (slot_congr (Ring.sl 4 (t.val + 4)) (off11_eq t h 3) _).trans (by rw [Ring.sl_add])

/-- The box the body loads and stores at a point is the ring's slot of that point. -/
instance (priority := high) closedOff_slot : ClosedOff (k0_off5 (grid0.coords t)) :=
  ⟨![(Ring.sl 4 t.val).val, 0, 0], off5_eq t⟩
end Canon

end Cert.Kernel.OneHot

end
-- ==== Proof.Value.lean ====
/-
  The values: what one step's tile holds, what the kernel's flat result holds, and that the copy of a step's tile leaves
  its row block of the result at exactly that.
-/
module

public import proofs.«01_k».proof.Proof.Setup
public import Idealize.ShloMosaic.Lib.ValueLayout
public import Idealize.ShloMosaic.Lib.ViewIndex

@[expose] public section

set_option maxRecDepth 16384

noncomputable section

namespace Cert.Kernel.OneHot

open Cert.Kernel Cert.Kernel.Gen
open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What a step computes -/

theorem inb_words (u : Fin 64) : ∀ a, (![64 * u.val, 0] : Fin 2 → Nat) a + S64x26.size a ≤ S4096x26.size a := by
  have := u.isLt; intro a; fin_cases a <;> simp <;> omega
/-- Rows `64 u … 64 u + 63` of the index array `x`. -/
def words (x : Vec F S4096x26 .i32) (u : Fin 64) : Vec F S64x26 .i32 :=
  idxM.view.readAt (Elt F) (Rect.unit (s := S4096x26) ![64 * u.val, 0] S64x26.size (inb_words u)).toLoadRect x
/-- The tile of row block `u`: the body's stored value at those rows, as a 64 × 26000 matrix. -/
def tile (x : Vec F S4096x26 .i32) (u : Fin 64) : FVec F S64x26000 .f32 :=
  shapeCast S64x26000 (k0_pay1 (words x u)) (Shape.Squeezes.numel_eq squeezes_S1x64x26000_S64x26000)
/-- The kernel's flat result: row `r` is row `r % 64` of the tile of row block `r / 64`. -/
def flatOut (x : Vec F S4096x26 .i32) : FVec F S4096x26000 .f32 := fun i =>
  tile x ⟨(i 0).val / 64, by have : (i 0).val < 4096 := (i 0).isLt; omega⟩
    (ix2 (⟨(i 0).val % 64, Nat.mod_lt _ (by decide)⟩ : Fin 64) (i 1))

/-! ## What the step's copies move -/

/-- The rows a point loads are its row block's. -/
theorem loaded (t : Fin grid0.N) (x : Vec F S4096x26 .i32)
    (inb : ∀ a, k0_off4 (grid0.coords t) a + S64x26.size a ≤ S4096x26.size a) :
    idxM.view.readAt (Elt F) (Rect.unit (s := S4096x26) (k0_off4 (grid0.coords t)) S64x26.size inb).toLoadRect x
      = words x (Ring.bk 64 t.val) := by
  have e := off4_eq t
  revert inb
  rw [e]
  intro inb; rfl

/-- A slot read after a whole store of `p` to it is `p`, as a matrix. -/
theorem slot_read (t : Fin grid0.N) (f : ringM.view.ty.Contents (Elt F)) (p : FVec F S1x64x26000 .f32)
    (inb : ∀ a, k0_off5 (grid0.coords t) a + S1x64x26000.size a ≤ S4x64x26000.size a) :
    (slotM (Ring.sl 4 t.val)).view.read (Elt F)
        ((ringM.access (Rect.unit (s := S4x64x26000) (k0_off5 (grid0.coords t)) S1x64x26000.size inb)).write (Elt F) f p Finset.univ)
      = shapeCast S64x26000 p (Shape.Squeezes.numel_eq squeezes_S1x64x26000_S64x26000) := by
  have e := off5_eq t
  revert inb
  rw [e]
  intro inb
  funext y
  exact congrFun (View.read_write_univ (v := ringM.access (slotBox (Ring.sl 4 t.val))) f p) (Shape.reshapeEquiv _ y)

/-- The slot a point copies out, after it stored its rows' value there, is its row block's tile. -/
theorem stored (t : Fin grid0.N) (x : Vec F S4096x26 .i32) (f : ringM.view.ty.Contents (Elt F))
    (inb4 : ∀ a, k0_off4 (grid0.coords t) a + S64x26.size a ≤ S4096x26.size a)
    (inb5 : ∀ a, k0_off5 (grid0.coords t) a + S1x64x26000.size a ≤ S4x64x26000.size a) :
    (slotM (Ring.sl 4 t.val)).view.read (Elt F)
        ((ringM.access (Rect.unit (s := S4x64x26000) (k0_off5 (grid0.coords t)) S1x64x26000.size inb5)).write (Elt F) f
          (k0_pay1 (idxM.view.readAt (Elt F) (Rect.unit (s := S4096x26) (k0_off4 (grid0.coords t)) S64x26.size inb4).toLoadRect x))
          Finset.univ)
      = tile x (Ring.bk 64 t.val) := by
  rw [slot_read, loaded]; rfl

/-- The index copy, fetched whole from the index array, holds the index array. -/
theorem fetched (x : Vec F S4096x26 .i32) (f : idxM.view.ty.Contents (Elt F)) :
    idxM.view.write (Elt F) f (xM.view.read (Elt F) x) Finset.univ = x :=
  View.write_whole_univ cc0_scratch0 f _

/-- Reading the flat result through row block `u` gives that block's tile. -/
theorem rows_read (u : Fin 64) (x : Vec F S4096x26 .i32) : (rowsM u).view.read (Elt F) (flatOut x) = tile x u := by
  funext y
  have h0 : (y 0).val < 64 := (y 0).isLt
  have e0 : (((rowsBox u).emb y) 0).val = 64 * u.val + (y 0).val := by
    rw [Rect.emb_apply]; show 64 * u.val + 1 * (y 0).val = _; omega
  have e1 : (((rowsBox u).emb y) 1).val = (y 1).val := by
    rw [Rect.emb_apply]; show 0 + 1 * (y 1).val = _; omega
  show flatOut x ((rowsBox u).emb y) = tile x u y
  unfold flatOut
  refine congrArg₂ (tile x) (Fin.ext ?_) (funext fun a => Fin.ext ?_)
  · show (((rowsBox u).emb y) 0).val / 64 = u.val
    omega
  · match a with
    | ⟨0, _⟩ => show (((rowsBox u).emb y) 0).val % 64 = (y 0).val; omega
    | ⟨1, _⟩ => exact e1

/-- What a copy of row block `u`'s tile leaves there is the flat result, on that block. -/
theorem landed_eq (u : Fin 64) (x : Vec F S4096x26 .i32) (f : (rowsM u).view.ty.Contents (Elt F)) :
    ∀ i ∈ (rowsM u).view.set, (rowsM u).view.writes (Elt F) f [⟨Rect.whole S64x26000, tile x u⟩] i = flatOut x i := by
  intro i hi
  obtain ⟨y, -, rfl⟩ := Finset.mem_map.mp hi
  refine View.eq_of_read_eq ?_
  rw [View.read_writes_whole, rows_read]

end Cert.Kernel.OneHot

end
-- ==== Proof.Run.lean ====
/-
  The body run once at a point, case by case: the first point fetches the indices, the points before the ring is full
  issue their copy at a free slot, a later point waits for its slot's last copy first, and the last point also waits for
  every copy still in flight.
-/
module

public import proofs.«01_k».proof.Proof.Value

@[expose] public section

set_option maxRecDepth 16384

noncomputable section

namespace Cert.Kernel.OneHot

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD)

/-! ## The ring's resources -/

/-- Slot `g` held at contents `e`, row block `u` held at contents `f`, and slot `g`'s cell at zero. -/
abbrev slotP (g : Fin 4) (e : BufOf (F := F) c (slotM g)) : sProp 𝕄 :=
  (slotM g).view.loc (c : Thread nD τ) ↦[(slotM g).view.set]{fullShare} e
abbrev rowsP (u : Fin 64) (f : BufOf (F := F) c (rowsM u)) : sProp 𝕄 :=
  (rowsM u).view.loc (c : Thread nD τ) ↦[(rowsM u).view.set]{fullShare} f
abbrev cellP (g : Fin 4) : sProp 𝕄 := semVal ((c : Thread nD τ), cellR g) 0

/-- A copy from slot `g` to row block `u` in flight, which hands back the row block at contents `f` and the slot at `e`. -/
abbrev copyP (g : Fin 4) (u : Fin 64) (f : BufOf (F := F) c (rowsM u)) (e : BufOf (F := F) c (slotM g)) : sProp 𝕄 :=
  Transfers.Flight countersEmb (c : Thread nD τ) (cellR g) default ((rowsM u).view.amount (cellR g))
    iprop(rowsP c u f ∗ slotP c g e)

/-- A free slot; a row block not yet written; a row block that holds its rows of the flat result; and a slot in flight,
    whose copy brings those rows. -/
abbrev freeP (g : Fin 4) : sProp 𝕄 := iprop(cellP (F := F) c g ∗ ∃ e, slotP c g e)
abbrev aheadP (u : Fin 64) : sProp 𝕄 := iprop(∃ f, rowsP (F := F) c u f)
abbrev doneP (x : Vec F S4096x26 .i32) (u : Fin 64) : sProp 𝕄 := rowsP c u (flatOut x)
abbrev flightP (x : Vec F S4096x26 .i32) (g : Fin 4) (u : Fin 64) : sProp 𝕄 := iprop(∃ e, copyP c g u (flatOut x) e)

/-- The index copy held at what the whole fetch of `x` left is held at `x`. -/
theorem fetched_held (x : Vec F S4096x26 .i32) (f : BufOf (F := F) c idxM) :
    heldAt c idxM (idxM.view.write (Elt F) f (xM.view.read (Elt F) x) Finset.univ) ⊢ heldAt c idxM x := by
  rw [fetched]

/-- A row block held at what the copy of its tile left holds its rows of the flat result. -/
theorem rows_landed (u : Fin 64) (x : Vec F S4096x26 .i32) (f : BufOf (F := F) c (rowsM u))
    (d : S64x26000.Idx → Elt F .f32) (hd : d = tile x u) :
    rowsP c u ((rowsM u).view.writes (Elt F) f [⟨Rect.whole S64x26000, d⟩]) ⊢ doneP c x u := by
  subst hd
  unfold doneP rowsP
  rw [pointsTo_congr (landed_eq u x f)]

/-- A copy in flight that brings a row block's tile is one that brings its rows of the flat result. -/
theorem flight_landed (g : Fin 4) (u : Fin 64) (x : Vec F S4096x26 .i32) (f : BufOf (F := F) c (rowsM u))
    (e : BufOf (F := F) c (slotM g)) (d : S64x26000.Idx → Elt F .f32) (hd : d = tile x u) :
    copyP c g u ((rowsM u).view.writes (Elt F) f [⟨Rect.whole S64x26000, d⟩]) e ⊢ flightP c x g u := by
  subst hd
  unfold copyP rowsP
  rw [pointsTo_congr (landed_eq u x f)]
  iintro H; iexists e; iexact H

/-- The body at a point, on its operands. -/
abbrev bodyOn (t : Fin cfg0.N) (arg2 : Memref sig .tc .vmem S26x26000 .f32) (harg2 : arg2.IsWhole) :=
  cc0__body (F := F) (grid0.coords t) xM (Memref.isWhole_whole _) arg2 harg2 outM (Memref.isWhole_whole _)
    idxM (Memref.isWhole_whole _) ringM (Memref.isWhole_whole _) cc0_scratch2 cc0_scratch3

variable (t : Fin cfg0.N) (arg2 : Memref sig .tc .vmem S26x26000 .f32) (harg2 : arg2.IsWhole) (x : Vec F S4096x26 .i32)

/-! ## The four cases -/

set_option maxHeartbeats 1000000 in
/-- From point 4 on, but the last: the slot's last copy is waited for, and the slot is in flight again. -/
theorem run_steady (h1 : ¬ fetches (grid0.coords t)) (h2 : k0_cond2 (grid0.coords t) = 1#1) (h3 : ¬ k0_cond3 (grid0.coords t) = 1#1)
    (W : Waits sig Unit) (K : PUnit → sProp 𝕄) :
    iprop(heldAt c idxM x ∗ aheadP c (Ring.bk 64 t.val) ∗ flightP c x (Ring.sl 4 t.val) (Ring.bk 64 (t.val - 4))
        ∗ owes (c : Thread nD τ) 0 W
        ∗ ((heldAt c idxM x ∗ doneP c x (Ring.bk 64 (t.val - 4)) ∗ flightP c x (Ring.sl 4 t.val) (Ring.bk 64 t.val)
            ∗ ∃ W', owes (c : Thread nD τ) 0 W') -∗ K ⟨⟩))
      ⊢ wp frame (wpE (defs₀ (F := F)) Variants.none c none) Set.univ (bodyOn t arg2 harg2) K := by
  haveI : Fact (¬ fetches (grid0.coords t)) := ⟨h1⟩
  haveI : Fact (k0_cond2 (grid0.coords t) = 1#1) := ⟨h2⟩
  haveI : Fact (¬ k0_cond3 (grid0.coords t) = 1#1) := ⟨h3⟩
  simp only [bodyOn, cc0__body_eq_skeleton]; unfold cc0__body_skel
  iintro ⟨Hx, ⟨%fp, Hp⟩, ⟨%fe, HF⟩, HW, Hk⟩
  sl_exec (disch := first | sl_exact h1 | sl_exact h2 | sl_exact h3)
  sl_step
  iapply Hk
  isplitl [Hx]; · iexact Hx
  isplitl [HF_dst]; · iexact HF_dst
  isplitl [HF]
  · iapply (flight_landed c _ _ x fp _ _ (stored t x _ _ _))
    iexact HF
  iexists _; iexact HW

set_option maxHeartbeats 1000000 in
/-- Points 1, 2 and 3: the slot is free, and is in flight after. -/
theorem run_filling (h1 : ¬ fetches (grid0.coords t)) (h2 : ¬ k0_cond2 (grid0.coords t) = 1#1) (h3 : ¬ k0_cond3 (grid0.coords t) = 1#1)
    (W : Waits sig Unit) (K : PUnit → sProp 𝕄) :
    iprop(heldAt c idxM x ∗ aheadP c (Ring.bk 64 t.val) ∗ freeP c (Ring.sl 4 t.val) ∗ owes (c : Thread nD τ) 0 W
        ∗ ((heldAt c idxM x ∗ flightP c x (Ring.sl 4 t.val) (Ring.bk 64 t.val) ∗ ∃ W', owes (c : Thread nD τ) 0 W') -∗ K ⟨⟩))
      ⊢ wp frame (wpE (defs₀ (F := F)) Variants.none c none) Set.univ (bodyOn t arg2 harg2) K := by
  haveI : Fact (¬ fetches (grid0.coords t)) := ⟨h1⟩
  haveI : Fact (¬ k0_cond2 (grid0.coords t) = 1#1) := ⟨h2⟩
  haveI : Fact (¬ k0_cond3 (grid0.coords t) = 1#1) := ⟨h3⟩
  simp only [bodyOn, cc0__body_eq_skeleton]; unfold cc0__body_skel
  iintro ⟨Hx, ⟨%fp, Hp⟩, ⟨HC, %fe, HS⟩, HW, Hk⟩
  sl_exec (disch := first | sl_exact h1 | sl_exact h2 | sl_exact h3)
  sl_step
  iapply Hk
  isplitl [Hx]; · iexact Hx
  isplitl [HC]
  · iapply (flight_landed c _ _ x fp _ _ (stored t x _ _ _))
    iexact HC
  iexists _; iexact HW

set_option maxHeartbeats 1000000 in
/-- The first point: the indices are fetched whole, and slot 0 is in flight. -/
theorem run_first (h1 : fetches (grid0.coords t)) (h2 : ¬ k0_cond2 (grid0.coords t) = 1#1) (h3 : ¬ k0_cond3 (grid0.coords t) = 1#1)
    (W : Waits sig Unit) (K : PUnit → sProp 𝕄) :
    iprop((∃ f, heldAt (F := F) c idxM f) ∗ idxCell c ∗ heldAt c xM x ∗ aheadP c (Ring.bk 64 t.val) ∗ freeP c (Ring.sl 4 t.val)
        ∗ owes (c : Thread nD τ) 0 W
        ∗ ((heldAt c idxM x ∗ idxCell c ∗ heldAt c xM x ∗ flightP c x (Ring.sl 4 t.val) (Ring.bk 64 t.val)
            ∗ ∃ W', owes (c : Thread nD τ) 0 W') -∗ K ⟨⟩))
      ⊢ wp frame (wpE (defs₀ (F := F)) Variants.none c none) Set.univ (bodyOn t arg2 harg2) K := by
  haveI : Fact (fetches (grid0.coords t)) := ⟨h1⟩
  haveI : Fact (¬ k0_cond2 (grid0.coords t) = 1#1) := ⟨h2⟩
  haveI : Fact (¬ k0_cond3 (grid0.coords t) = 1#1) := ⟨h3⟩
  simp only [bodyOn, cc0__body_eq_skeleton]; unfold cc0__body_skel
  iintro ⟨⟨%fi, Hi⟩, HI, Hx, ⟨%fp, Hp⟩, ⟨HC, %fe, HS⟩, HW, Hk⟩
  sl_exec (disch := first | sl_exact h1 | sl_exact h2 | sl_exact h3)
  sl_step
  iapply Hk
  isplitl [Hi]
  · iapply (fetched_held c x fi)
    iexact Hi
  isplitl [HI]; · iexact HI
  isplitl [Hx]; · iexact Hx
  isplitl [HC]
  · iapply (flight_landed c _ _ x fp _ _ ((stored t _ _ _ _).trans (congrArg (fun z => tile z _) (fetched x fi))))
    iexact HC
  iexists _; iexact HW

set_option maxHeartbeats 1000000 in
/-- The last point: its slot's last copy is waited for, then its own and the three before it. -/
theorem run_last (h1 : ¬ fetches (grid0.coords t)) (h2 : k0_cond2 (grid0.coords t) = 1#1) (h3 : k0_cond3 (grid0.coords t) = 1#1)
    (W : Waits sig Unit) (K : PUnit → sProp 𝕄) :
    iprop(heldAt c idxM x ∗ aheadP c (Ring.bk 64 t.val) ∗ flightP c x (Ring.sl 4 t.val) (Ring.bk 64 (t.val - 4))
        ∗ flightP c x (Ring.sl 4 (t.val + 1)) (Ring.bk 64 (t.val - 3)) ∗ flightP c x (Ring.sl 4 (t.val + 2)) (Ring.bk 64 (t.val - 2))
        ∗ flightP c x (Ring.sl 4 (t.val + 3)) (Ring.bk 64 (t.val - 1)) ∗ owes (c : Thread nD τ) 0 W
        ∗ ((heldAt c idxM x ∗ doneP c x (Ring.bk 64 t.val) ∗ doneP c x (Ring.bk 64 (t.val - 1)) ∗ doneP c x (Ring.bk 64 (t.val - 2))
            ∗ doneP c x (Ring.bk 64 (t.val - 3)) ∗ doneP c x (Ring.bk 64 (t.val - 4))
            ∗ freeP c (Ring.sl 4 t.val) ∗ freeP c (Ring.sl 4 (t.val + 1)) ∗ freeP c (Ring.sl 4 (t.val + 2)) ∗ freeP c (Ring.sl 4 (t.val + 3))
            ∗ ∃ W', owes (c : Thread nD τ) 0 W') -∗ K ⟨⟩))
      ⊢ wp frame (wpE (defs₀ (F := F)) Variants.none c none) Set.univ (bodyOn t arg2 harg2) K := by
  haveI : Fact (¬ fetches (grid0.coords t)) := ⟨h1⟩
  haveI : Fact (k0_cond2 (grid0.coords t) = 1#1) := ⟨h2⟩
  haveI : Fact (k0_cond3 (grid0.coords t) = 1#1) := ⟨h3⟩
  simp only [bodyOn, cc0__body_eq_skeleton]; unfold cc0__body_skel
  rw [k0_part1_eq_skeleton]; unfold k0_part1_skel
  iintro ⟨Hx, ⟨%fp, Hp⟩, ⟨%fe, HF⟩, ⟨%f1, HG⟩, ⟨%f2, HH⟩, ⟨%f3, HI⟩, HW, Hk⟩
  sl_exec (disch := first | sl_exact h1 | sl_exact h2 | sl_exact h3)
  sl_step
  iapply Hk
  isplitl [Hx]; · iexact Hx
  isplitl [Hp]
  · iapply (rows_landed c _ x fp _ (stored t x _ _ _))
    iexact Hp
  isplitl [HI_dst]; · iexact HI_dst
  isplitl [HH_dst]; · iexact HH_dst
  isplitl [HG_dst]; · iexact HG_dst
  isplitl [HF_dst]; · iexact HF_dst
  isplitl [HF HF_src]; · isplitl [HF]; · iexact HF
                         iexists _; iexact HF_src
  isplitl [HG HG_src]; · isplitl [HG]; · iexact HG
                         iexists _; iexact HG_src
  isplitl [HH HH_src]; · isplitl [HH]; · iexact HH
                         iexists _; iexact HH_src
  isplitl [HI HI_src]; · isplitl [HI]; · iexact HI
                         iexists _; iexact HI_src
  iexists _; iexact HW

end Cert.Kernel.OneHot

end
-- ==== Proof.Ring4.lean ====
/-
  A write ring of four slots, each copy waited four steps after it started: one step of the library's write-behind
  invariant (`Ring.AtBΦ` with four groups and depth four), stated once for the boot and for the steady steps.
-/
module

public import Idealize.ShloMosaic.Lib.Ring
public import Idealize.ShloMosaic.Lib.Ring.WriteBehind

@[expose] public section

noncomputable section

namespace Idealize.ShloMosaic.Ring4

open Idealize.SL
open Idealize.SL.BI (sProp bigSep bigSep_insert bigSep_empty)
open scoped Idealize.SL.BI
open Idealize.SL.BI.BIBase Idealize.SL.BI.Laws Idealize.SL.Sem Idealize.SL.ProofMode
open Idealize.SL.RA
open Idealize.ShloMosaic.Ring

variable {M : Type _} [URA M] {NB : ℕ} [NeZero NB]
variable (free : Fin 4 → sProp M) (infl : Fin 4 → Fin NB → sProp M) (ahead behind : Fin NB → sProp M)

/-- The three slots step `k` does not touch, which ride through it: those of steps `k + 1`, `k + 2`, `k + 3`. -/
def others (k : ℕ) : sProp M :=
  iprop(roleB 4 free infl k 1 ∗ roleB 4 free infl k 2 ∗ roleB 4 free infl k 3)

/-- Four conjuncts, listed. -/
theorem bigSep_four (P : Fin 4 → sProp M) : bigSep Finset.univ P = iprop(P 0 ∗ P 1 ∗ P 2 ∗ P 3) := by
  rw [BI.bigSep_eq_bigSepL_of_eq [0, 1, 2, 3] (by decide) (by decide)]; rfl

/-- Four conjuncts over the slots are four conjuncts starting at any slot `k`. -/
theorem bigSep_four_from (P : Fin 4 → sProp M) (k : ℕ) :
    bigSep Finset.univ P = iprop(P (sl 4 k) ∗ P (sl 4 (k + 1)) ∗ P (sl 4 (k + 2)) ∗ P (sl 4 (k + 3))) := by
  have hmod (j : ℕ) : sl 4 (k + j) = sl 4 (k % 4 + j) := Fin.ext (by simp [Fin.ofNat])
  have h0 : sl 4 k = sl 4 (k % 4) := hmod 0
  rw [h0, hmod 1, hmod 2, hmod 3]
  have hk : k % 4 < 4 := Nat.mod_lt _ (by decide)
  generalize k % 4 = r at hk
  rcases (show r = 0 ∨ r = 1 ∨ r = 2 ∨ r = 3 by omega) with rfl | rfl | rfl | rfl
  · rw [BI.bigSep_eq_bigSepL_of_eq [0, 1, 2, 3] (by decide) (by decide)]; rfl
  · rw [BI.bigSep_eq_bigSepL_of_eq [1, 2, 3, 0] (by decide) (by decide)]; rfl
  · rw [BI.bigSep_eq_bigSepL_of_eq [2, 3, 0, 1] (by decide) (by decide)]; rfl
  · rw [BI.bigSep_eq_bigSepL_of_eq [3, 0, 1, 2] (by decide) (by decide)]; rfl

/-- Before step `k`: the step's own slot, and the other three. -/
theorem roles_here (k : ℕ) :
    bigSep Finset.univ (roleB 4 free infl k) = iprop(roleB 4 free infl k 0 ∗ others free infl k) := by
  rw [bigSep_four]; rfl

/-- Before step `k + 1`: the same other three, and slot `k % 4` in flight with step `k`'s copy. -/
theorem roles_next (k : ℕ) :
    bigSep Finset.univ (roleB 4 free infl (k + 1)) = iprop(infl (sl 4 k) (bk NB k) ∗ others free infl k) := by
  have e (j j' : Fin 4) (h : j'.val + 1 = j.val) : roleB 4 free infl (k + 1) j' = roleB 4 free infl k j := by
    unfold roleB
    rw [show k + 1 + j'.val = k + j.val by omega]
    exact if_congr (by omega) rfl rfl
  rw [BI.bigSep_eq_bigSepL_of_eq [3, 0, 1, 2] (by decide) (by decide)]
  simp only [BI.bigSepL_cons_cons, BI.bigSepL_singleton]
  rw [e 1 0 rfl, e 2 1 rfl, e 3 2 rfl, roleB_of_infl _ _ _ (k + 1) 3 ⟨by show 4 ≤ k + 1 + 3; omega, by decide⟩,
    show k + 1 + (3 : Fin 4).val = k + 4 from rfl, sl_add, show k + 4 - 4 = k by omega]
  rfl

/-- Before a step `k < 4` the step's own slot is free and no piece is behind. -/
theorem here_boot (k : ℕ) (h4 : k < 4) (hk : k < NB) :
    AtB 4 free infl ahead behind k
      = iprop((ahead (bk NB k) ∗ bigSep (aheadSet (k + 1)) ahead) ∗ bigSep (behindSet 4 k) behind
          ∗ free (sl 4 k) ∗ others free infl k) := by
  unfold AtB
  rw [aheadSet_open k hk, bigSep_insert (bk_not_mem_aheadSet_succ k hk), roles_here,
    roleB_of_free _ _ _ k 0 (by show ¬(4 ≤ k + 0 ∧ 4 ≤ 0 + 4); omega)]
  rfl

/-- After a step `k < 4`: its copy in flight on its slot; still no piece behind. -/
theorem next_boot (k : ℕ) (h4 : k < 4) :
    AtB 4 free infl ahead behind (k + 1)
      = iprop(bigSep (aheadSet (k + 1)) ahead ∗ bigSep (behindSet 4 k) behind
          ∗ infl (sl 4 k) (bk NB k) ∗ others free infl k) := by
  unfold AtB
  rw [roles_next, behindSet_boot 4 (k + 1) (by omega), behindSet_boot 4 k (by omega)]

/-- Before a step `k ≥ 4` the step's own slot is in flight with the copy of step `k - 4`. -/
theorem here_steady (k : ℕ) (h4 : 4 ≤ k) (hk : k < NB) :
    AtB 4 free infl ahead behind k
      = iprop((ahead (bk NB k) ∗ bigSep (aheadSet (k + 1)) ahead) ∗ bigSep (behindSet 4 k) behind
          ∗ infl (sl 4 k) (bk NB (k - 4)) ∗ others free infl k) := by
  unfold AtB
  rw [aheadSet_open k hk, bigSep_insert (bk_not_mem_aheadSet_succ k hk), roles_here,
    roleB_of_infl _ _ _ k 0 ⟨h4, by decide⟩]
  rfl

/-- After a step `k ≥ 4`: the piece of step `k - 4` is behind, the step's copy in flight on its slot. -/
theorem next_steady (k : ℕ) (h4 : 4 ≤ k) (hk : k < NB) :
    AtB 4 free infl ahead behind (k + 1)
      = iprop(bigSep (aheadSet (k + 1)) ahead ∗ (behind (bk NB (k - 4)) ∗ bigSep (behindSet 4 k) behind)
          ∗ infl (sl 4 k) (bk NB k) ∗ others free infl k) := by
  unfold AtB
  rw [roles_next, behindSet_close 4 k h4 hk, bigSep_insert (bk_not_mem_behindSet 4 k h4 hk)]
  rfl

/-- From step 4 on the other slots carry the copies of the three steps
    before this one. -/
theorem others_steady (k : ℕ) (h4 : 4 ≤ k) :
    others free infl k = iprop(infl (sl 4 (k + 1)) (bk NB (k - 3)) ∗ infl (sl 4 (k + 2)) (bk NB (k - 2))
      ∗ infl (sl 4 (k + 3)) (bk NB (k - 1))) := by
  have e (j : Fin 4) : roleB 4 free infl k j = infl (sl 4 (k + j.val)) (bk NB (k + j.val - 4)) :=
    roleB_of_infl _ _ _ k j (by omega)
  unfold others
  rw [e, e, e]
  show iprop(infl (sl 4 (k + 1)) (bk NB (k + 1 - 4)) ∗ infl (sl 4 (k + 2)) (bk NB (k + 2 - 4)) ∗ infl (sl 4 (k + 3)) (bk NB (k + 3 - 4))) = _
  rw [show k + 1 - 4 = k - 3 by omega, show k + 2 - 4 = k - 2 by omega, show k + 3 - 4 = k - 1 by omega]

/-- No step is ahead of the last one: that family is empty. -/
theorem ahead_last (k : ℕ) (hk : k + 1 = NB) : bigSep (aheadSet (NB := NB) (k + 1)) ahead = iprop(emp) := by
  rw [aheadSet_end (k + 1) (by omega), bigSep_empty]; rfl

/-- After the last step `k` has drained the ring: the pieces of the last five steps join the others behind, and the four
    slots are free, listed from the step's own. -/
theorem drained (k : ℕ) (h4 : 4 ≤ k) (hk : k + 1 = NB) :
    AtBEnd free behind
      = iprop((behind (bk NB k) ∗ behind (bk NB (k - 1)) ∗ behind (bk NB (k - 2)) ∗ behind (bk NB (k - 3))
            ∗ behind (bk NB (k - 4)) ∗ bigSep (behindSet 4 k) behind)
          ∗ free (sl 4 k) ∗ free (sl 4 (k + 1)) ∗ free (sl 4 (k + 2)) ∗ free (sl 4 (k + 3))) := by
  have b (j : ℕ) : (bk NB (k - j)).val = k - j := bk_val (by omega)
  have b0 : (bk NB k).val = k := bk_val (by omega)
  have e : (Finset.univ : Finset (Fin NB)) = insert (bk NB k) (insert (bk NB (k - 1)) (insert (bk NB (k - 2))
      (insert (bk NB (k - 3)) (insert (bk NB (k - 4)) (behindSet 4 k))))) := by
    ext u
    simp only [Finset.mem_univ, Finset.mem_insert, mem_behindSet, true_iff, Fin.ext_iff, b, b0]
    have := u.isLt; omega
  unfold AtBEnd
  rw [e, bigSep_insert, bigSep_insert, bigSep_insert, bigSep_insert, bigSep_insert, bigSep_four_from free k]
  · rfl
  all_goals simp only [Finset.mem_insert, mem_behindSet, Fin.ext_iff, b, b0]; omega

end Idealize.ShloMosaic.Ring4

end
-- ==== Proof.Pieces.lean ====
/-
  The ring scratch held whole is its four slots, the result held whole is its 64 row blocks, and the ring's four
  semaphores are its slots' cells: what the launch hands the ring, and what it gets back.
-/
module

public import proofs.«01_k».proof.Proof.Run
public import proofs.«01_k».proof.Proof.Ring4

@[expose] public section

set_option maxRecDepth 16384

noncomputable section

namespace Cert.Kernel.OneHot

open Cert.Kernel Cert.Kernel.Gen
open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (x : Vec F S4096x26 .i32)

/-! ## Slots and row blocks tile their buffers -/

/-- Slots do not overlap, and together are the whole ring. -/
theorem slots_disjoint (g g' : Fin 4) (h : g ≠ g') : Disjoint (slotBox g).set (slotBox g').set :=
  Ring.lead_disjoint (s := S4x64x26000) 0 1 (fun g : Fin 4 => ![g.val, 0, 0]) S1x64x26000.size inb_slot
    (fun b => by simp) rfl g g' h
theorem slots_cover : Finset.univ.biUnion (fun g : Fin 4 => (slotBox g).set) = Finset.univ :=
  Ring.lead_cover (s := S4x64x26000) 0 1 (fun g : Fin 4 => ![g.val, 0, 0]) S1x64x26000.size inb_slot
    (fun b => by simp) (fun b a ha => by fin_cases a <;> first | exact absurd rfl ha | rfl) rfl
    (fun a ha => by fin_cases a <;> first | exact absurd rfl ha | rfl) rfl

/-- Row blocks do not overlap, and together are the whole result. -/
theorem rows_disjoint (u u' : Fin 64) (h : u ≠ u') : Disjoint (rowsBox u).set (rowsBox u').set :=
  Ring.lead_disjoint (s := S4096x26000) 0 64 (fun u : Fin 64 => ![64 * u.val, 0]) S64x26000.size inb_rows
    (fun b => by simp) rfl u u' h
theorem rows_cover : Finset.univ.biUnion (fun u : Fin 64 => (rowsBox u).set) = Finset.univ :=
  Ring.lead_cover (s := S4096x26000) 0 64 (fun u : Fin 64 => ![64 * u.val, 0]) S64x26000.size inb_rows
    (fun b => by simp) (fun b a ha => by fin_cases a <;> first | exact absurd rfl ha | rfl) rfl
    (fun a ha => by fin_cases a <;> first | exact absurd rfl ha | rfl) rfl

/-- A slot held is its box of the ring held; a row block held is its box of the result held. -/
theorem slotP_eq (g : Fin 4) (e : BufOf (F := F) c ringM) :
    slotP c g e = (ringM.view.loc (c : Thread nD τ) ↦[(slotBox g).set]{fullShare} e : sProp 𝕄) := by
  have h : (slotM g).view.set = (slotBox g).set := by
    simp only [slotM, Memref.view_squeeze, View.set_reshape]; exact View.set_slice_whole _ _
  unfold slotP; rw [h]; rfl
theorem rowsP_eq (u : Fin 64) (f : BufOf (F := F) c outM) :
    rowsP c u f = (outM.view.loc (c : Thread nD τ) ↦[(rowsBox u).set]{fullShare} f : sProp 𝕄) := by
  have h : (rowsM u).view.set = (rowsBox u).set := View.set_slice_whole _ _
  unfold rowsP; rw [h]; rfl

/-- The ring whole at anything is its slots, each at something, and back. -/
theorem slots_in : iprop(∃ f, heldAt (F := F) c ringM f) ⊢ (bigSep Finset.univ (fun g => iprop(∃ e, slotP (F := F) c g e)) : sProp 𝕄) :=
  Ring.pieces_split (U := Pipeline.UD sig nD τ) (ℓ := ringM.view.loc (c : Thread nD τ)) (q := fullShare)
    (fun g => (slotBox g).set) slots_disjoint slots_cover (fun g e => slotP c g e) (slotP_eq c)
theorem slots_out : (bigSep Finset.univ (fun g => iprop(∃ e, slotP (F := F) c g e)) : sProp 𝕄) ⊢ iprop(∃ f, heldAt (F := F) c ringM f) :=
  Ring.pieces_join (U := Pipeline.UD sig nD τ) (ℓ := ringM.view.loc (c : Thread nD τ)) (q := fullShare)
    (fun g => (slotBox g).set) slots_disjoint slots_cover (fun g e => slotP c g e) (slotP_eq c)
    (fun _ => tile (fun _ => 0#32) 0 (ix2 0 0))

/-- The result whole at anything is its row blocks, each at something. -/
theorem rows_in : iprop(∃ f, heldAt (F := F) c outM f) ⊢ (bigSep Finset.univ (aheadP (F := F) c) : sProp 𝕄) :=
  Ring.pieces_split (U := Pipeline.UD sig nD τ) (ℓ := outM.view.loc (c : Thread nD τ)) (q := fullShare)
    (fun u => (rowsBox u).set) rows_disjoint rows_cover (fun u f => rowsP c u f) (rowsP_eq c)
/-- The row blocks, each at its rows of the flat result, are the result whole at the flat result. -/
theorem rows_out : (bigSep Finset.univ (doneP c x) : sProp 𝕄) = heldAt c outM (flatOut x) := by
  have h (f : BufOf (F := F) c outM) : (bigSep Finset.univ (fun u => rowsP c u f) : sProp 𝕄) = heldAt c outM f := by
    have e : (fun u => rowsP (F := F) c u f)
        = (fun u : Fin 64 => (outM.view.loc (c : Thread nD τ) ↦[(rowsBox u).set]{fullShare} f : sProp 𝕄)) :=
      funext fun u => rowsP_eq c u f
    rw [e]
    exact (Ring.pointsTo_blocks (ℓ := outM.view.loc (c : Thread nD τ)) (fun u : Fin 64 => (rowsBox u).set) rows_disjoint
      rows_cover f).symm
  exact h (flatOut x)

/-- The ring's four semaphores at zero are its cells at zero. -/
theorem cells_eq : (bigSep Finset.univ (cellP (F := F) c) : sProp 𝕄)
    = iprop(semVal ((c : Thread nD τ), SemLoc.dma 2) 0 ∗ semVal ((c : Thread nD τ), SemLoc.dma 3) 0
        ∗ semVal ((c : Thread nD τ), SemLoc.dma 4) 0 ∗ semVal ((c : Thread nD τ), SemLoc.dma 5) 0) := by
  rw [Ring4.bigSep_four]
  unfold cellP
  rw [cellR_0, cellR_1, cellR_2, cellR_3]

/-! ## The ring before the first step and after the last -/

/-- The ring before step `k`: row blocks to write, row blocks written, slots free, slots in flight. -/
def ringAt (k : ℕ) : sProp 𝕄 := Ring.AtBΦ (NB := 64) 4 (freeP c) (flightP c x) (aheadP c) (doneP c x) k

/-- The four slots and their cells are the four free slots. -/
theorem frees_eq : (bigSep Finset.univ (freeP (F := F) c) : sProp 𝕄)
    = iprop(bigSep Finset.univ (cellP (F := F) c) ∗ bigSep Finset.univ (fun g => iprop(∃ e, slotP (F := F) c g e))) :=
  BI.bigSep_sep _ _ _

/-- The scratch, the cells and the result, as the launch hands them, are the ring before its first step. -/
theorem ring_in : iprop((∃ f, heldAt (F := F) c ringM f)
      ∗ (semVal ((c : Thread nD τ), SemLoc.dma 2) 0 ∗ semVal ((c : Thread nD τ), SemLoc.dma 3) 0
        ∗ semVal ((c : Thread nD τ), SemLoc.dma 4) 0 ∗ semVal ((c : Thread nD τ), SemLoc.dma 5) 0)
      ∗ ∃ f, heldAt (F := F) c outM f) ⊢ ringAt c x 0 := by
  unfold ringAt
  rw [Ring.AtBΦ_lt _ _ _ _ _ 0 (by decide), Ring.AtB_zero]; unfold Ring.AtB₀
  rw [frees_eq, cells_eq]
  iintro ⟨HS, HQ, HO⟩
  isplitl [HO]; · iapply (rows_in c); iexact HO
  isplitl [HQ]; · iexact HQ
  iapply (slots_in c); iexact HS

/-- The ring after its last step gives them back, the result at the flat result. -/
theorem ring_out : ringAt c x 64 ⊢ iprop((∃ f, heldAt (F := F) c ringM f)
      ∗ (semVal ((c : Thread nD τ), SemLoc.dma 2) 0 ∗ semVal ((c : Thread nD τ), SemLoc.dma 3) 0
        ∗ semVal ((c : Thread nD τ), SemLoc.dma 4) 0 ∗ semVal ((c : Thread nD τ), SemLoc.dma 5) 0)
      ∗ heldAt c outM (flatOut x)) := by
  unfold ringAt
  rw [Ring.AtBΦ_end _ _ _ _ _ 64 rfl]; unfold Ring.AtBEnd
  rw [frees_eq, cells_eq, rows_out]
  iintro ⟨HO, HQ, HS⟩
  isplitl [HS]; · iapply (slots_out c); iexact HS
  isplitl [HQ]; · iexact HQ
  iexact HO

end Cert.Kernel.OneHot

end
-- ==== Proof.Frame.lean ====
/-
  The kernel's launch: the invariant between its points, the body at every point, and the run of `@main`, which ends with
  the argument unchanged, every semaphore at zero and the result at the flat result reshaped.
-/
module

public import proofs.«01_k».proof.Proof.Pieces

@[expose] public section

set_option maxRecDepth 16384

noncomputable section

namespace Cert.Kernel.OneHot

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The invariant and the proof data -/

/-- The index array on core `c`. -/
abbrev xs (c : Dev nD) : Vec F S4096x26 .i32 := V m c main_arg0

/-- The index copy before point `k`: at anything before the first, at the index array from then on. -/
def idxAt (c : Dev nD) (k : ℕ) : sProp 𝕄 := if k = 0 then iprop(∃ f, heldAt (F := F) c idxM f) else heldAt c idxM (xs m c)

/-- The invariant before point `k`. -/
def Inv (c : Dev nD) (k : ℕ) : sProp 𝕄 :=
  iprop(idxAt m c k ∗ idxCell c ∗ heldAt c xM (xs m c) ∗ ringAt c (xs m c) k)

/-- The proof data of the one pipeline on core `c`: its array as the call finds it, its staged operand untouched, the
    invariant, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := Inv m c t.val
  q _ := fullShare
  owed _ := 0

theorem A_eq (c : Dev nD) (w : Fin cfg0.W) : (dats m 0 c).A w = V m c (Pipeline.arrRef spec0 w) := by
  dsimp only [dats]
theorem after_eq (c : Dev nD) (t : Fin cfg0.N) : (dats m 0 c).after 0 t = iblk m c 0 t := by dsimp only [dats]
theorem inv_castSucc (c : Dev nD) (t : Fin cfg0.N) : (dats m 0 c).Φ t.castSucc = Inv m c t.val := by
  dsimp only [dats]; simp only [Fin.coe_castSucc]
theorem inv_succ (c : Dev nD) (t : Fin cfg0.N) : (dats m 0 c).Φ t.succ = Inv m c (t.val + 1) := by
  dsimp only [dats]; simp only [Fin.val_succ]

/-- The staged operand's buffer holds its block at every point. -/
theorem before_eq (c : Dev nD) (t : Fin cfg0.N) (d) : (dats m 0 c).before 0 t d = iblk m c 0 t :=
  ((dats m 0 c).before_in_eq_fetched 0 rfl (fun _ => rfl) (fun _ _ _ => rfl)
      (fun t => by rw [after_eq]; unfold Dat.blockOf iblk; rw [A_eq]; try rfl) t d).trans
    (by unfold Dat.fetched Dat.blockOf iblk; rw [A_eq]; try rfl)

/-! ## The body at a point -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

/-- A point's step of the invariant: what it asks of the waits recorded so far is nothing. -/
theorem step (c : Dev nD) (t : Fin cfg0.N)
    (h : ∀ (W : Waits sig Unit) (K : PUnit → sProp 𝕄), iprop(Inv m c t.val ∗ owes (c : Thread nD τ) 0 W
        ∗ ((Inv m c (t.val + 1) ∗ ∃ W', owes (c : Thread nD τ) 0 W') -∗ K ⟨⟩))
      ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before_eq]
  rw [after_eq, inv_castSucc, inv_succ]
  unfold Dat.owesAt Pipeline.owesWithin
  rw [show (dats m 0 c).owed t.castSucc = 0 from rfl, show (dats m 0 c).owed t.succ = 0 from rfl]
  iintro ⟨HI, ⟨%W, -, HW⟩, ⟨%d, H⟩⟩
  iapply (h W _)
  isplitl [HI]; · iexact HI
  isplitl [HW]; · iexact HW
  iintro ⟨HI, ⟨%W', HW'⟩⟩
  isplitl [HI]; · iexact HI
  isplitl [HW']
  · iexists W'; isplitr; · ipureintro; exact fun _ _ => Or.inl trivial
    iexact HW'
  iexact H

/-- The first point. -/
theorem step_first (c : Dev nD) (t : Fin cfg0.N) (ht : t.val = 0) (W : Waits sig Unit) (K : PUnit → sProp 𝕄) :
    iprop(Inv m c t.val ∗ owes (c : Thread nD τ) 0 W ∗ ((Inv m c (t.val + 1) ∗ ∃ W', owes (c : Thread nD τ) 0 W') -∗ K ⟨⟩))
      ⊢ wp frame (wpE (defs₀ (F := F)) Variants.none c none) Set.univ (bodyAt0 t) K := by
  unfold Inv idxAt ringAt
  rw [if_pos ht, if_neg (by omega), Ring.AtBΦ_lt _ _ _ _ _ t.val (by omega), Ring.AtBΦ_lt _ _ _ _ _ (t.val + 1) (by omega),
    Ring4.here_boot _ _ _ _ t.val (by omega) (by omega), Ring4.next_boot _ _ _ _ t.val (by omega)]
  iintro ⟨⟨Hi, HI, Hx, ⟨⟨Ha, HA⟩, HB, Hf, HO⟩⟩, HW, Hk⟩
  iapply (run_first c t _ _ (xs m c) ((fetches_iff t).mpr ht) (fun h => by have := (waits_iff t).mp h; omega)
    (fun h => by have := (drains_iff t).mp h; omega) W _)
  isplitl [Hi]; · iexact Hi
  isplitl [HI]; · iexact HI
  isplitl [Hx]; · iexact Hx
  isplitl [Ha]; · iexact Ha
  isplitl [Hf]; · iexact Hf
  isplitl [HW]; · iexact HW
  iintro ⟨Hi, HI, Hx, Hf, HW⟩
  iapply Hk
  isplitr [HW]
  · isplitl [Hi]; · iexact Hi
    isplitl [HI]; · iexact HI
    isplitl [Hx]; · iexact Hx
    isplitl [HA]; · iexact HA
    isplitl [HB]; · iexact HB
    isplitl [Hf]; · iexact Hf
    iexact HO
  iexact HW

/-- Points 1, 2 and 3. -/
theorem step_filling (c : Dev nD) (t : Fin cfg0.N) (h0 : t.val ≠ 0) (h4 : t.val < 4) (W : Waits sig Unit) (K : PUnit → sProp 𝕄) :
    iprop(Inv m c t.val ∗ owes (c : Thread nD τ) 0 W ∗ ((Inv m c (t.val + 1) ∗ ∃ W', owes (c : Thread nD τ) 0 W') -∗ K ⟨⟩))
      ⊢ wp frame (wpE (defs₀ (F := F)) Variants.none c none) Set.univ (bodyAt0 t) K := by
  unfold Inv idxAt ringAt
  rw [if_neg h0, if_neg (by omega), Ring.AtBΦ_lt _ _ _ _ _ t.val (by omega), Ring.AtBΦ_lt _ _ _ _ _ (t.val + 1) (by omega),
    Ring4.here_boot _ _ _ _ t.val h4 (by omega), Ring4.next_boot _ _ _ _ t.val h4]
  iintro ⟨⟨Hi, HI, Hx, ⟨⟨Ha, HA⟩, HB, Hf, HO⟩⟩, HW, Hk⟩
  iapply (run_filling c t _ _ (xs m c) (fun h => h0 ((fetches_iff t).mp h)) (fun h => by have := (waits_iff t).mp h; omega)
    (fun h => by have := (drains_iff t).mp h; omega) W _)
  isplitl [Hi]; · iexact Hi
  isplitl [Ha]; · iexact Ha
  isplitl [Hf]; · iexact Hf
  isplitl [HW]; · iexact HW
  iintro ⟨Hi, Hf, HW⟩
  iapply Hk
  isplitr [HW]
  · isplitl [Hi]; · iexact Hi
    isplitl [HI]; · iexact HI
    isplitl [Hx]; · iexact Hx
    isplitl [HA]; · iexact HA
    isplitl [HB]; · iexact HB
    isplitl [Hf]; · iexact Hf
    iexact HO
  iexact HW

/-- Points 4 to 62. -/
theorem step_steady (c : Dev nD) (t : Fin cfg0.N) (h4 : 4 ≤ t.val) (h63 : t.val < 63) (W : Waits sig Unit) (K : PUnit → sProp 𝕄) :
    iprop(Inv m c t.val ∗ owes (c : Thread nD τ) 0 W ∗ ((Inv m c (t.val + 1) ∗ ∃ W', owes (c : Thread nD τ) 0 W') -∗ K ⟨⟩))
      ⊢ wp frame (wpE (defs₀ (F := F)) Variants.none c none) Set.univ (bodyAt0 t) K := by
  unfold Inv idxAt ringAt
  rw [if_neg (by omega), if_neg (by omega), Ring.AtBΦ_lt _ _ _ _ _ t.val (by omega), Ring.AtBΦ_lt _ _ _ _ _ (t.val + 1) (by omega),
    Ring4.here_steady _ _ _ _ t.val h4 (by omega), Ring4.next_steady _ _ _ _ t.val h4 (by omega)]
  iintro ⟨⟨Hi, HI, Hx, ⟨⟨Ha, HA⟩, HB, Hf, HO⟩⟩, HW, Hk⟩
  iapply (run_steady c t _ _ (xs m c) (fun h => by have := (fetches_iff t).mp h; omega) ((waits_iff t).mpr h4)
    (fun h => by have := (drains_iff t).mp h; omega) W _)
  isplitl [Hi]; · iexact Hi
  isplitl [Ha]; · iexact Ha
  isplitl [Hf]; · iexact Hf
  isplitl [HW]; · iexact HW
  iintro ⟨Hi, Hd, Hf, HW⟩
  iapply Hk
  isplitr [HW]
  · isplitl [Hi]; · iexact Hi
    isplitl [HI]; · iexact HI
    isplitl [Hx]; · iexact Hx
    isplitl [HA]; · iexact HA
    isplitl [Hd HB]
    · isplitl [Hd]; · iexact Hd
      iexact HB
    isplitl [Hf]; · iexact Hf
    iexact HO
  iexact HW

/-- The last point. -/
theorem step_last (c : Dev nD) (t : Fin cfg0.N) (h63 : t.val = 63) (W : Waits sig Unit) (K : PUnit → sProp 𝕄) :
    iprop(Inv m c t.val ∗ owes (c : Thread nD τ) 0 W ∗ ((Inv m c (t.val + 1) ∗ ∃ W', owes (c : Thread nD τ) 0 W') -∗ K ⟨⟩))
      ⊢ wp frame (wpE (defs₀ (F := F)) Variants.none c none) Set.univ (bodyAt0 t) K := by
  unfold Inv idxAt ringAt
  rw [if_neg (by omega), if_neg (by omega), Ring.AtBΦ_lt _ _ _ _ _ t.val (by omega), Ring.AtBΦ_end _ _ _ _ _ (t.val + 1) (by omega),
    Ring4.here_steady _ _ _ _ t.val (by omega) (by omega), Ring4.others_steady _ _ t.val (by omega),
    Ring4.drained _ _ t.val (by omega) (by omega)]
  iintro ⟨⟨Hi, HI, Hx, ⟨⟨Ha, -⟩, HB, Hf, Hf1, Hf2, Hf3⟩⟩, HW, Hk⟩
  iapply (run_last c t _ _ (xs m c) (fun h => by have := (fetches_iff t).mp h; omega) ((waits_iff t).mpr (by omega))
    ((drains_iff t).mpr h63) W _)
  isplitl [Hi]; · iexact Hi
  isplitl [Ha]; · iexact Ha
  isplitl [Hf]; · iexact Hf
  isplitl [Hf1]; · iexact Hf1
  isplitl [Hf2]; · iexact Hf2
  isplitl [Hf3]; · iexact Hf3
  isplitl [HW]; · iexact HW
  iintro ⟨Hi, Hd0, Hd1, Hd2, Hd3, Hd4, Hf, Hf1, Hf2, Hf3, HW⟩
  iapply Hk
  isplitr [HW]
  · isplitl [Hi]; · iexact Hi
    isplitl [HI]; · iexact HI
    isplitl [Hx]; · iexact Hx
    isplitl [Hd0 Hd1 Hd2 Hd3 Hd4 HB]
    · isplitl [Hd0]; · iexact Hd0
      isplitl [Hd1]; · iexact Hd1
      isplitl [Hd2]; · iexact Hd2
      isplitl [Hd3]; · iexact Hd3
      isplitl [Hd4]; · iexact Hd4
      iexact HB
    isplitl [Hf]; · iexact Hf
    isplitl [Hf1]; · iexact Hf1
    isplitl [Hf2]; · iexact Hf2
    iexact Hf3
  iexact HW

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  apply step
  intro W K
  by_cases h0 : t.val = 0
  · exact step_first m c t h0 W K
  by_cases h4 : t.val < 4
  · exact step_filling m c t h0 h4 W K
  by_cases h63 : t.val < 63
  · exact step_steady m c t (by omega) h63 W K
  · exact step_last m c t (by omega) W K

/-- The body table's row at a point is the body there. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The buffers' contents as the call leaves them: the result at the flat result. -/
def G (c : Dev nD) : (b : Ref sig .tc) → Buf (Elt F) ((c : Thread nD τ).loc b) :=
  Function.update (V m c) main_v8 (flatOut (xs m c))

/-- What the launch hands over is the invariant before the first point, -/
theorem hin (c : Dev nD) : Pipeline.ΦDRV ownSem spec0 readRefs writtenRefs (V m) (V m) c ⊢ (dats m 0 c).Φ 0 := by
  rw [region_eq, show (dats m 0 c).Φ 0 = Inv m c 0 from rfl]
  unfold Inv idxAt
  rw [if_pos rfl]
  iintro ⟨⟨Hi, Hr⟩, ⟨HI, HQ⟩, Hx, Ho⟩
  isplitl [Hi]; · iexact Hi
  isplitl [HI]; · iexact HI
  isplitl [Hx]; · iexact Hx
  iapply (ring_in c (xs m c))
  isplitl [Hr]; · iexact Hr
  isplitl [HQ]; · iexact HQ
  iexists _; iexact Ho

/-- and the invariant after the last point hands it back, the result at the flat result. -/
theorem hout (c : Dev nD) : (dats m 0 c).Φ (Fin.last cfg0.N) ⊢ Pipeline.ΦDRV ownSem spec0 readRefs writtenRefs (V m) (G m) c := by
  rw [region_eq, show (dats m 0 c).Φ (Fin.last cfg0.N) = Inv m c grid0.N from rfl]
  unfold Inv idxAt
  rw [show grid0.N = 64 from N_0, if_neg (by decide), show G m c main_v8 = flatOut (xs m c) from Function.update_self ..]
  iintro ⟨Hi, HI, Hx, HR⟩
  ihave HR' := (ring_out c (xs m c)) $$ HR
  icases HR' with ⟨Hr, HQ, Ho⟩
  isplitl [Hi Hr]
  · isplitl [Hi]; · iexists _; iexact Hi
    iexact Hr
  isplitl [HI HQ]
  · isplitl [HI]; · iexact HI
    iexact HQ
  isplitl [Hx]; · iexact Hx
  iexact Ho

/-- The result: the flat result under the result's shape. -/
def out (x : Vec F S4096x26 .i32) : FVec F S4096x26x1000 .f32 :=
  shapeCast S4096x26x1000 (flatOut x) shapeCasts_S4096x26000_S4096x26x1000

/-- The host line after the call leaves the argument alone, and the result at the flat result reshaped. -/
theorem after_arg0 (c : Dev nD) (A : (w : Fin cfg0.W) → Buf (Elt F) ((spec0 w).arr.view.loc (c.tc : Thread nD τ))) :
    StableHlo.after (List.flatten [hostOps1]) (Pipeline.withArrays spec0 c (Pipeline.withR (V0 m c) writtenRefs c (G m c)) A)
        (Proc.devRef .tc main_arg0) = m ((c : Thread nD τ).loc main_arg0) := by
  simp only [hostOps1, List.flatten_cons, List.flatten_nil, List.append_nil, StableHlo.after_cons, StableHlo.after_nil]
  rw [StableHlo.reshape_result_ne (h := by decide), Pipeline.withArrays_of_ne _ _ _ _ main_arg0 (by decide),
    Pipeline.withR_of_not_mem _ _ _ _ main_arg0 (by decide)]
  exact V_main_arg0 m c
theorem after_v9 (c : Dev nD) (A : (w : Fin cfg0.W) → Buf (Elt F) ((spec0 w).arr.view.loc (c.tc : Thread nD τ))) :
    StableHlo.after (List.flatten [hostOps1]) (Pipeline.withArrays spec0 c (Pipeline.withR (V0 m c) writtenRefs c (G m c)) A)
        (Proc.devRef .tc main_v9) = out (m ((c : Thread nD τ).loc main_arg0)) := by
  simp only [hostOps1, List.flatten_cons, List.flatten_nil, List.append_nil, StableHlo.after_cons, StableHlo.after_nil]
  rw [StableHlo.reshape_result', Pipeline.withArrays_of_ne _ _ _ _ main_v8 (by decide),
    Pipeline.withR_of_mem _ _ _ _ main_v8 (by decide)]
  rw [show G m c main_v8 = flatOut (xs m c) from Function.update_self .., show xs m c = m ((c : Thread nD τ).loc main_arg0) from V_main_arg0 m c]
  rfl

-- the theorem's implicit arguments are found by unifying its conclusion with this one, which takes unfolding plain
-- definitions in a metavariable's type
set_option backward.isDefEq.respectTransparency.types false in
set_option maxHeartbeats 800000 in
/-- The run: from any memory with zero counters every execution of `@main` ends with the argument unchanged, the result at
    `out` of the argument, and every counter at zero. -/
theorem run : θ_run defs (onTc (τ := τ) (main (F := F))) ⟨m, fun _ => 0, ρ⟩ (fun r => (∀ c : Dev nD,
      r.2.mem ((c.tc : Thread nD τ).loc main_v9) = out (m ((c.tc : Thread nD τ).loc main_arg0))
      ∧ r.2.mem ((c.tc : Thread nD τ).loc main_arg0) = m ((c.tc : Thread nD τ).loc main_arg0))
      ∧ r.2.sem = fun _ => 0) :=
  Pipeline.θ_run_frame_dmaR_aroundV cfgs (dats m) (0 : Fin 1) launch0 ownSem defs₀ Variants.none ownSem_facts
    readRefs writtenRefs readRefs_sub writtenRefs_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := main_around m Variants.none) (hA := A_eq m) (hin := hin m) (hout := hout m) (Q' := _)
    (hQ' := fun r h => ⟨fun c =>
      ⟨((h.1 c).2 main_v9 (Pipeline.mem_restRefs_of main_v9 (by decide) (by decide))).trans (after_v9 m c _),
        ((h.1 c).2 main_arg0 (Pipeline.mem_restRefs_of main_arg0 (by decide) (by decide))).trans (after_arg0 m c _)⟩, h.2⟩)

end Cert.Kernel.OneHot

end
-- ==== Proof.Transport.lean ====
/-
  The idealized program is the kernel's own text, so its run is the kernel's, at exact arithmetic.
-/
module

public import proofs.«01_k».proof.Proof.Gen.KernelIdeal
public import proofs.«01_k».proof.Proof.Frame

@[expose] public section

set_option maxRecDepth 65536

noncomputable section

namespace Cert.Kernel.OneHot

open Idealize.ShloMosaic Idealize.SL.Sem

variable {F : FTy → Type} [FloatOps F]

/-- The two programs have one signature, one body table and one `@main`. -/
theorem sig_eq : Cert.KernelIdeal.sig = Cert.Kernel.sig := rfl
theorem main_eq : Cert.KernelIdeal.main (F := F) = Cert.Kernel.main (F := F) := rfl
theorem defs0_eq : Cert.KernelIdeal.defs₀ (F := F) = Cert.Kernel.defs₀ (F := F) := by
  unfold Cert.KernelIdeal.defs₀ Cert.Kernel.defs₀
  congr 1
  funext l x
  obtain rfl : l = 0 := Subsingleton.elim (α := Fin 1) l 0
  rfl
theorem defs_eq : Cert.KernelIdeal.defs (F := F) = Cert.Kernel.defs (F := F) := by
  unfold Cert.KernelIdeal.defs Cert.Kernel.defs
  rw [← defs0_eq]; rfl

/-- The idealized program's run: result at `out` of the argument, argument unchanged, every counter at zero. -/
theorem run_ideal (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_v9)
          = out (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) := by
  rw [defs_eq, main_eq]
  exact run m ρ

end Cert.Kernel.OneHot

end
-- ==== Proof.Equation.lean ====
/-
  The equation: at exact arithmetic, the kernel's result and the reference's are one array. Both compare the index at
  row `i`, column `j` with the class number `k` and convert the one-bit answer to a float; the kernel does so a row block
  at a time, on a flat row of 26 · 1000 entries.
-/
module

public import proofs.«01_k».proof.Proof.Frame
public import proofs.«01_k».proof.Proof.Gen.ReferenceIdeal.Run
public import Idealize.ShloMosaic.Lib.KernelVsHost
public import Idealize.ShloMosaic.Lib.Pipeline.Value
public import Idealize.ShloMosaic.Lib.Pointwise.Reshape

@[expose] public section

set_option maxRecDepth 16384

noncomputable section

namespace Cert.Kernel.OneHot

open Cert.Kernel Cert.Kernel.Gen
open Idealize.ShloMosaic

variable {F : FTy → Type} [FloatOps F]

/-- Whether an index is the class number `k`. -/
def hits (a : BitVec 32) (k : ℕ) : BitVec 1 := IntOp.cmpi .eq a (BitVec.ofNat 32 k)

/-! ## The kernel's result, element by element -/

/-- Row block `w` of indices against every class number, as a bit. -/
def mask (w : Vec F S64x26 .i32) : IVec S64x26x1000 1 :=
  cmpi .eq (broadcastTo S64x26x1000 (shapeCast S64x26x1 w shapeCasts_S64x26_S64x26x1) broadcasts_S64x26x1_S64x26x1000)
    (iota .tc S64x26x1000 32 [2] iota_S64x26x1000_d2_w32)

/-- An element of the mask compares that row's and column's index with the class number. -/
theorem mask_apply (w : Vec F S64x26 .i32) (r : Fin 64) (j : Fin 26) (k : Fin 1000) :
    mask w (ValueIdx.ix3 r j k) = hits (w (ValueIdx.ix2 r j)) k.val := by
  have hw : broadcastTo S64x26x1000 (shapeCast S64x26x1 w shapeCasts_S64x26_S64x26x1) broadcasts_S64x26x1_S64x26x1000
      (ValueIdx.ix3 r j k) = w (ValueIdx.ix2 r j) := by
    refine (broadcastTo_apply _ _ _ (ValueIdx.ix3 r j (0 : Fin 1)) (by intro a; fin_cases a <;> rfl)).trans ?_
    refine shapeCast_apply _ _ _ _ ?_
    refine (Shape.rowMajor_val_two _).trans (Eq.trans ?_ (Shape.rowMajor_val_three _).symm)
    show r.val * 26 + j.val = (r.val * 26 + j.val) * 1 + 0
    omega
  have hk : iota .tc S64x26x1000 32 [2] iota_S64x26x1000_d2_w32 (ValueIdx.ix3 r j k) = BitVec.ofNat 32 k.val :=
    iota_single_apply ..
  show IntOp.cmpi .eq _ _ = IntOp.cmpi .eq _ _
  rw [hw, hk]

/-- What the body stores for a row block: the block's mask, converted, laid flat, with a leading unit axis. -/
theorem stored_eq (w : Vec F S64x26 .i32) : k0_pay1 w = shapeCast S1x64x26000
    (shapeCast S64x26000 (sitofp (F := F) .f32 (extui 32 (mask w) natLt_1_32)) shapeCasts_S64x26x1000_S64x26000)
    shapeCasts_S64x26000_S1x64x26000 := rfl

/-- A tile's row is the row block's mask, converted and laid flat. -/
theorem tile_eq (x : Vec F S4096x26 .i32) (u : Fin 64) :
    tile x u = shapeCast S64x26000 (sitofp .f32 (extui 32 (mask (words x u)) natLt_1_32)) shapeCasts_S64x26x1000_S64x26000 := by
  unfold tile
  rw [stored_eq, shapeCast_comp, shapeCast_id]

/-- An element of a row block is that row of the index array. -/
theorem words_apply (x : Vec F S4096x26 .i32) (u : Fin 64) (r : Fin 64) (j : Fin 26) (n : Fin 4096)
    (hn : n.val = 64 * u.val + r.val) : words x u (ValueIdx.ix2 r j) = x (ValueIdx.ix2 n j) := by
  show x _ = x _
  congr 1
  funext a
  fin_cases a
  · exact Fin.ext (by show 64 * u.val + 1 * r.val = n.val; omega)
  · exact Fin.ext (by show 0 + 1 * j.val = j.val; omega)

/-- An element of a tile: the comparison's bit, widened and converted. -/
theorem tile_apply (x : Vec F S4096x26 .i32) (u r : Fin 64) (j : Fin 26) (k : Fin 1000) (n : Fin 4096)
    (hn : n.val = 64 * u.val + r.val) (e : Fin 26000) (he : e.val = j.val * 1000 + k.val) :
    tile x u (ValueIdx.ix2 r e) = FloatOps.sitofp .f32 ((hits (x (ValueIdx.ix2 n j)) k.val).setWidth 32) := by
  rw [tile_eq]
  refine (shapeCast_apply _ _ _ (ValueIdx.ix3 r j k) ?_).trans ?_
  · erw [Shape.rowMajor_val_two, Shape.rowMajor_val_three]
    show (r.val * 26 + j.val) * 1000 + k.val = r.val * 26000 + e.val
    omega
  · rw [← words_apply x u r j n hn, ← mask_apply]
    rfl

/-- The kernel's result at row `n`, column `j`, class `k`: the comparison's bit, widened and converted. -/
theorem out_apply (x : Vec F S4096x26 .i32) (n : Fin 4096) (j : Fin 26) (k : Fin 1000) :
    out x (ValueIdx.ix3 n j k) = FloatOps.sitofp .f32 ((hits (x (ValueIdx.ix2 n j)) k.val).setWidth 32) := by
  have hn := n.isLt
  have hj := j.isLt
  have hk := k.isLt
  unfold out
  refine (shapeCast_apply _ _ _ (ValueIdx.ix2 n (⟨j.val * 1000 + k.val, by omega⟩ : Fin 26000)) ?_).trans ?_
  · erw [Shape.rowMajor_val_two, Shape.rowMajor_val_three]
    show n.val * 26000 + (j.val * 1000 + k.val) = (n.val * 26 + j.val) * 1000 + k.val
    omega
  · exact tile_apply x ⟨n.val / 64, by omega⟩ ⟨n.val % 64, by omega⟩ j k n
      (by show n.val = 64 * (n.val / 64) + n.val % 64; omega) _ rfl

/-! ## The reference's result, and the equation -/

/-- The reference's result as its operations compose it. -/
def reference (x : Vec F S4096x26 .i32) : FVec F S4096x26x1000 .f32 :=
  uitofp .f32 (cmpi .eq
    (broadcastInDim S4096x26x1000 ![0, 1, 2] Cert.ReferenceIdeal.Gen.bcast_S4096x26x1_S4096x26x1000_0_1_2
      (broadcastInDim Cert.ReferenceIdeal.S4096x26x1 ![0, 1] Cert.ReferenceIdeal.Gen.bcast_S4096x26_S4096x26x1_0_1 x))
    (broadcastInDim S4096x26x1000 ![0, 1, 2] Cert.ReferenceIdeal.Gen.bcast_S1x1x1000_S4096x26x1000_0_1_2
      (iotaInDim Cert.ReferenceIdeal.S1x1x1000 32 2)))

/-- The reference's result at an element: the comparison's bit, converted. -/
theorem reference_apply (x : Vec F S4096x26 .i32) (n : Fin 4096) (j : Fin 26) (k : Fin 1000) :
    reference x (ValueIdx.ix3 n j k) = FloatOps.uitofp .f32 (hits (x (ValueIdx.ix2 n j)) k.val) := by
  have hx : broadcastInDim S4096x26x1000 ![0, 1, 2] Cert.ReferenceIdeal.Gen.bcast_S4096x26x1_S4096x26x1000_0_1_2
      (broadcastInDim Cert.ReferenceIdeal.S4096x26x1 ![0, 1] Cert.ReferenceIdeal.Gen.bcast_S4096x26_S4096x26x1_0_1 x)
      (ValueIdx.ix3 n j k) = x (ValueIdx.ix2 n j) :=
    (broadcastInDim_apply _ _ _ _ (ValueIdx.ix3 n j (0 : Fin 1)) (by intro a; fin_cases a <;> rfl)).trans
      (broadcastInDim_apply _ _ _ _ _ (by intro a; fin_cases a <;> rfl))
  show FloatOps.uitofp .f32 (IntOp.cmpi .eq _ _) = FloatOps.uitofp .f32 (IntOp.cmpi .eq _ _)
  rw [hx]
  rfl

/-- At exact arithmetic the two results are equal, whatever the indices. -/
theorem out_eq_reference (x : Vec Ideal S4096x26 .i32) : out (F := Ideal) x = reference x := by
  have h (n : Fin 4096) (j : Fin 26) (k : Fin 1000) :
      out (F := Ideal) x (ValueIdx.ix3 n j k) = reference x (ValueIdx.ix3 n j k) := by
    rw [out_apply, reference_apply]
    exact congrFun (sitofp_extui_eq_uitofp (φ := .f32) (s := S4096x26) (fun i => hits (x i) k.val) natLt_1_32) (ValueIdx.ix2 n j)
  funext i
  rw [ValueIdx.eq_ix3 i]
  exact h (i 0) (i 1) (i 2)

end Cert.Kernel.OneHot

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frame
public import proofs.«01_k».proof.Proof.Transport
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel runs on the machine's values: argument unchanged, every counter at zero. -/
theorem frame_kernel : Cert.quiescent_Kernel (hKernel := Cert.Kernel.Gen.facts) := fun m g _ =>
  (θ_run _ _ _).mono (fun _ h => ⟨fun c => (h.1 c).2, h.2⟩) (OneHot.run m g)

/-- The idealized program likewise, on exact values. -/
theorem frame_ideal : Cert.quiescent_KernelIdeal (hKernelIdeal := Cert.KernelIdeal.Gen.facts) := fun m g _ =>
  (θ_run _ _ _).mono (fun _ h => ⟨fun c => (h.1 c).2, h.2⟩) (OneHot.run_ideal m g)

/-- The reference likewise: it declares no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The idealized program and the reference, from equal arguments, end with equal results. -/
theorem equal_results : Cert.algebraic_KernelIdeal_ReferenceIdeal (hKernelIdeal := Cert.KernelIdeal.Gen.facts)
    (hReferenceIdeal := Cert.ReferenceIdeal.Gen.facts) := fun m g m' g' _ hm =>
  ⟨fun c => OneHot.out (m ((c.tc : Thread Cert.KernelIdeal.nD Cert.KernelIdeal.τ).loc Cert.KernelIdeal.main_arg0)),
    (θ_run _ _ _).mono (fun _ h => h.1) (OneHot.run_ideal m g),
    (θ_run _ _ _).mono (fun _ h c => ⟨(h c).1.trans ((OneHot.out_eq_reference _).trans (congrArg OneHot.reference (hm c).symm)).symm, (h c).2⟩)
      (Cert.ReferenceIdeal.Value.run m' g')⟩

/-- Every claim, at the facts the generated modules prove. -/
theorem claim : Cert.Claim := ⟨Cert.Kernel.Gen.facts, Cert.KernelIdeal.Gen.facts, Cert.ReferenceIdeal.Gen.facts,
  frame_kernel, frame_ideal, frame_reference, trivial, equal_results⟩

end Cert.Proof

end
